-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "rate" .f32 0xBE135D8E#32 (((-(Real.log 10000)) * (1 / 64) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x32x4096x128 : Shape := ⟨4, ![4, 32, 4096, 128]⟩
abbrev S4096x128 : Shape := ⟨2, ![4096, 128]⟩
abbrev S2048x128 : Shape := ⟨2, ![2048, 128]⟩
abbrev S64x128 : Shape := ⟨2, ![64, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4x32x4096x128, .f32⟩
  | .hbm, ⟨1, _⟩ => ⟨S4096x128, .f32⟩
  | .hbm, ⟨2, _⟩ => ⟨S4096x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S64x128, .f32⟩
  | .local _ .vmem, ⟨5, _⟩ => ⟨S64x128, .f32⟩
  | _, _ => ⟨S4x32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "rate" => some (((-(Real.log 10000)) * (1 / 64) : ℝ) : EReal)
  | _ => none
-- ==== ReferenceIdeal.lean ====
abbrev S4x32x4096x128 : Shape := ⟨4, ![4, 32, 4096, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096 : Shape := ⟨2, ![1, 4096]⟩
abbrev S4x4096 : Shape := ⟨2, ![4, 4096]⟩
abbrev S16384 : Shape := ⟨1, ![16384]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 98
  | .vmem => 0
  | .smem => 0
  | _ => 0

abbrev bufTy : (tb : Table) → Fin (tcTables nBuf tb) → BufTy
  | .hbm, ⟨0, _⟩ => ⟨S4x32x4096x128, .f32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S4096, .f32⟩
  | .hbm, ⟨18, _⟩ => ⟨S4096x1, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096, .i32⟩
  | .hbm, ⟨27, _⟩ => ⟨S1x4096, .i32⟩
  | .hbm, ⟨28, _⟩ => ⟨S4x4096, .i32⟩
  | .hbm, ⟨29, _⟩ => ⟨S16384, .i32⟩
  | .hbm, ⟨30, _⟩ => ⟨S_, .f32⟩
  | .hbm, ⟨31, _⟩ => ⟨S4096x128, .f32⟩
  | .hbm, ⟨32, _⟩ => ⟨S_, .f32⟩
  | .hbm, ⟨33, _⟩ => ⟨S4096x128, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S1, .i32⟩
  | .hbm, ⟨43, _⟩ => ⟨S_, .i32⟩
  | .hbm, ⟨44, _⟩ => ⟨S16384x1, .i32⟩
  | .hbm, ⟨45, _⟩ => ⟨S16384x1, .i1⟩
  | .hbm, ⟨46, _⟩ => ⟨S1x1, .i32⟩
  | .hbm, ⟨47, _⟩ => ⟨S16384x1, .i32⟩
  | .hbm, ⟨48, _⟩ => ⟨S16384x1, .i1⟩
  | .hbm, ⟨49, _⟩ => ⟨S16384x1, .i1⟩
  | .hbm, ⟨50, _⟩ => ⟨S_, .i1⟩
  | .hbm, ⟨51, _⟩ => ⟨S16384, .i1⟩
  | .hbm, ⟨52, _⟩ => ⟨S16384x128, .f32⟩
  | .hbm, ⟨53, _⟩ => ⟨S16384x128, .i1⟩
  | .hbm, ⟨54, _⟩ => ⟨S_, .f32⟩
  | .hbm, ⟨55, _⟩ => ⟨S16384x128, .f32⟩
  | .hbm, ⟨56, _⟩ => ⟨S16384x128, .f32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S16384x1, .i32⟩
  | .hbm, ⟨65, _⟩ => ⟨S4096x128, .f32⟩
  | .hbm, ⟨66, _⟩ => ⟨S_, .i32⟩
  | .hbm, ⟨67, _⟩ => ⟨S16384, .i32⟩
  | .hbm, ⟨68, _⟩ => ⟨S16384, .i1⟩
  | .hbm, ⟨69, _⟩ => ⟨S_, .i32⟩
  | .hbm, ⟨70, _⟩ => ⟨S16384, .i32⟩
  | .hbm, ⟨71, _⟩ => ⟨S16384, .i32⟩
  | .hbm, ⟨72, _⟩ => ⟨S16384, .i32⟩
  | .hbm, ⟨73, _⟩ => ⟨S16384x1, .i32⟩
  | .hbm, ⟨74, _⟩ => ⟨S1, .i32⟩
  | .hbm, ⟨75, _⟩ => ⟨S_, .i32⟩
  | .hbm, ⟨76, _⟩ => ⟨S16384x1, .i32⟩
  | .hbm, ⟨77, _⟩ => ⟨S16384x1, .i1⟩
  | .hbm, ⟨78, _⟩ => ⟨S1x1, .i32⟩
  | .hbm, ⟨79, _⟩ => ⟨S16384x1, .i32⟩
  | .hbm, ⟨80, _⟩ => ⟨S16384x1, .i1⟩
  | .hbm, ⟨81, _⟩ => ⟨S16384x1, .i1⟩
  | .hbm, ⟨82, _⟩ => ⟨S_, .i1⟩
  | .hbm, ⟨83, _⟩ => ⟨S16384, .i1⟩
  | .hbm, ⟨84, _⟩ => ⟨S16384x128, .f32⟩
  | .hbm, ⟨85, _⟩ => ⟨S16384x128, .i1⟩
  | .hbm, ⟨86, _⟩ => ⟨S_, .f32⟩
  | .hbm, ⟨87, _⟩ => ⟨S16384x128, .f32⟩
  | .hbm, ⟨88, _⟩ => ⟨S16384x128, .f32⟩
  | .hbm, ⟨89, _⟩ => ⟨S_, .i32⟩
  | .hbm, ⟨90, _⟩ => ⟨S16384, .i32⟩
  | .hbm, ⟨91, _⟩ => ⟨S16384, .i1⟩
  | .hbm, ⟨92, _⟩ => ⟨S_, .i32⟩
  | .hbm, ⟨93, _⟩ => ⟨S16384, .i32⟩
  | .hbm, ⟨94, _⟩ => ⟨S16384, .i32⟩
  | .hbm, ⟨95, _⟩ => ⟨S16384, .i32⟩
  | .hbm, ⟨96, _⟩ => ⟨S16384x1, .i32⟩
  | .hbm, ⟨97, _⟩ => ⟨S4096x128, .f32⟩
  | _, _ => ⟨S4x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩
abbrev main_cst_5 : Ref sig .tc := ⟨.hbm, 32, rfl⟩
abbrev main_v25 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v26 : Ref sig .tc := ⟨.hbm, 56, rfl⟩
abbrev main_c : Ref sig .tc := ⟨.hbm, 57, rfl⟩
abbrev main_v27 : Ref sig .tc := ⟨.hbm, 58, rfl⟩
abbrev main_v28 : Ref sig .tc := ⟨.hbm, 59, rfl⟩
abbrev main_c_6 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v34 : Ref sig .tc := ⟨.hbm, 88, rfl⟩
abbrev main_c_7 : Ref sig .tc := ⟨.hbm, 89, rfl⟩
abbrev main_v35 : Ref sig .tc := ⟨.hbm, 90, rfl⟩
abbrev main_v36 : Ref sig .tc := ⟨.hbm, 91, rfl⟩
abbrev main_c_8 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩

abbrev nD : Nat := 1
abbrev τ : Topo := Topo.v7x

variable {F : FTy → Type} [FloatOps F]
-- ==== Proof.PrintedFrame.lean ====
/-
  The frame of the kernel as printed, its constants unnamed. The two generated runs of the body, one for the first grid point
  and one for the other, say which stores the body makes; here they are put together. The first point leaves two tables in the
  scratch, the second finds them there, and the two points fill the blocks of both outputs.
-/
module

public import proofs.«01_k».proof.Proof.Gen.Kernel.Frame.RunB
public import Idealize.ShloMosaic.Lib.Claim

@[expose] public section

set_option maxRecDepth 16384

noncomputable section

namespace Cert.Kernel.Rope

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two points store -/

/-- The run of the body at the first grid point. -/
abbrev first (c : Dev nD) (t : Fin cfg0.N) (h : t.val % 2 = 0) :=
  kernelRun0_A (F := F) c (grid0.coords t) (ms0_0 t) (hs0_0 t) (ms0_1 t) (hs0_1 t) scM0_0 (Memref.isWhole_whole _)
    scM0_1 (Memref.isWhole_whole _) ((hcond0_0 t).mpr h)

/-- The run of the body at the other point, the scratch holding `x` and `y`. -/
abbrev second (c : Dev nD) (t : Fin cfg0.N) (h : ¬t.val % 2 = 0) (x y : Vec F S64x128 .f32) :=
  kernelRun0_B (F := F) c (grid0.coords t) (ms0_0 t) (hs0_0 t) (ms0_1 t) (hs0_1 t) scM0_0 (Memref.isWhole_whole _)
    scM0_1 (Memref.isWhole_whole _) (fun hc => h ((hcond0_0 t).mp hc)) x y

/-- The first grid point. -/
def t₀ : Fin cfg0.N := ⟨0, lt_of_lt_of_eq Nat.zero_lt_two N_0.symm⟩

/-- The tables the first point leaves in the two scratch buffers. -/
def tabCos (c : Dev nD) : Vec F S64x128 .f32 :=
  VS0_0.read (Elt F) (VS0_0.writes (Elt F) VS0_0.junk (first c t₀ rfl).2.2.1)

def tabSin (c : Dev nD) : Vec F S64x128 .f32 :=
  VS0_1.read (Elt F) (VS0_1.writes (Elt F) VS0_1.junk (first c t₀ rfl).2.2.2.1)

/-- The block that point `t` leaves in the first output. -/
def blockCos (c : Dev nD) (t : Fin cfg0.N) : Vec F S2048x128 .f32 :=
  VO0_0.read (Elt F) (VO0_0.writes (Elt F) VO0_0.junk
    (if h : t.val % 2 = 0 then (first c t h).1 else (second c t h (tabCos c) (tabSin c)).1))

/-- The block that point `t` leaves in the second output. -/
def blockSin (c : Dev nD) (t : Fin cfg0.N) : Vec F S2048x128 .f32 :=
  VO0_1.read (Elt F) (VO0_1.writes (Elt F) VO0_1.junk
    (if h : t.val % 2 = 0 then (first c t h).2.1 else (second c t h (tabCos c) (tabSin c)).2.1))

/-- A buffer written over by stores that tile it holds what the same stores leave in any other buffer of its shape. -/
theorem owns_of_tiled {s : Shape} (c : Dev nD) (a : Memref sig .tc .vmem s .f32) (v : View sig .tc .vmem s .f32)
    (L : List (View.Piece (Elt F) s .f32)) (ext : Fin s.rank → ℕ) (h : View.Piece.tiledL L ext = true) :
    (iprop(∃ f, a.view.loc (c : Thread nD τ) ↦[a.view.set]{fullShare} a.view.writes (Elt F) f L) : sProp 𝕄)
      ⊢ owns (c : Thread nD τ) a fullShare (v.read (Elt F) (v.writes (Elt F) v.junk L)) := by
  unfold owns
  iintro ⟨%f, H⟩
  iexists _; isplitr
  swap; · iexact H
  ipureintro
  exact View.read_writes_of_cover _ _ _ _ _ (View.cover_of_tiledL L ext h)

/-! ## The pipeline's proof data -/

/-- What holds before grid position `n`: at first the scratch holds anything, afterwards the two tables. -/
def Phi (c : Dev nD) : ℕ → sProp 𝕄
  | 0 => Pipeline.ΦA spec0 c
  | _ + 1 => iprop(iprop(owns (c : Thread nD τ) scM0_0 fullShare (tabCos c) ∗ owns (c : Thread nD τ) scM0_1 fullShare (tabSin c)) ∗ (∃ r, prngReg c r))

/-- The pipeline's data on core `c`: the arrays as the region finds them, each output block as its point leaves it. -/
def dats (_ : Fin 1) (c : Dev nD) : Dat τ (Elt F) Unit ℕ (UR sig nD τ) ℕ cfg0 c where
  A w := V m c (Pipeline.arrRef spec0 w)
  after w t := match w with
    | ⟨0, _⟩ => blockCos c t
    | ⟨1, _⟩ => blockSin c t
  Φ t := Phi c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi c t.val := rfl

theorem after_cos (c : Dev nD) (t : Fin cfg0.N) : (dats m 0 c).after 0 t = blockCos c t := by dsimp only [dats]
theorem after_sin (c : Dev nD) (t : Fin cfg0.N) : (dats m 0 c).after 1 t = blockSin c t := by dsimp only [dats]

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 4000000 in
/-- The body at any point: the first fills the scratch, the other finds the tables there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, after_cos, after_sin]
  rw [show (dats m 0 c).Φ t.succ = Phi c (t.val + 1) from rfl, Phi_castSucc]
  have hN : t.val < 2 := lt_of_lt_of_eq t.isLt (show cfg0.N = 2 from N_0)
  unfold blockCos blockSin
  by_cases h0 : t.val % 2 = 0
  · obtain rfl : t = t₀ := Fin.ext (show t.val = 0 by omega)
    rw [dif_pos h0, dif_pos h0, show (t₀ : Fin cfg0.N).val = 0 from rfl]
    simp only [Phi]
    rw [PhiA0_eq]
    iintro ⟨⟨⟨HS0, HS1⟩, Hg⟩, Ho, ⟨%d0, H0⟩, ⟨%d1, H1⟩⟩
    iapply ((first c t₀ h0).2.2.2.2 Set.univ _)
    isplitl [H0]; · iexists _; iexact H0
    isplitl [H1]; · iexists _; iexact H1
    isplitl [HS0]; · iexact HS0
    isplitl [HS1]; · iexact HS1
    iintro ⟨H0, H1, HS0, HS1⟩
    isplitl [HS0 HS1 Hg]
    · isplitl [HS0 HS1]
      · isplitl [HS0]
        · iapply (owns_of_tiled c scM0_0 VS0_0 (first c t₀ rfl).2.2.1 S64x128.size (by sl_kernel_rfl)); iexact HS0
        iapply (owns_of_tiled c scM0_1 VS0_1 (first c t₀ rfl).2.2.2.1 S64x128.size (by sl_kernel_rfl)); iexact HS1
      iexact Hg
    isplitl [Ho]; · iexact Ho
    isplitl [H0]
    · iapply (owns_of_tiled c (ms0_0 t₀) VO0_0 (first c t₀ h0).1 S64x128.size (by sl_kernel_rfl)); iexact H0
    iapply (owns_of_tiled c (ms0_1 t₀) VO0_1 (first c t₀ h0).2.1 S64x128.size (by sl_kernel_rfl)); iexact H1
  · rw [dif_neg h0, dif_neg h0, show t.val = 0 + 1 by omega]
    simp only [Phi]
    iintro ⟨⟨⟨HS0, HS1⟩, Hg⟩, Ho, ⟨%d0, H0⟩, ⟨%d1, H1⟩⟩
    iapply ((second c t h0 (tabCos c) (tabSin c)).2.2.2.2 Set.univ _)
    isplitl [H0]; · iexists _; iexact H0
    isplitl [H1]; · iexists _; iexact H1
    isplitl [HS0]; · iexact HS0
    isplitl [HS1]; · iexact HS1
    iintro ⟨H0, H1, HS0, HS1⟩
    isplitl [HS0 HS1 Hg]
    · isplitl [HS0 HS1]
      · isplitl [HS0]; · iexact HS0
        iexact HS1
      iexact Hg
    isplitl [Ho]; · iexact Ho
    isplitl [H0]
    · iapply (owns_of_tiled c (ms0_0 t) VO0_0 (second c t h0 (tabCos c) (tabSin c)).1 S64x128.size (by sl_kernel_rfl)); iexact H0
    iapply (owns_of_tiled c (ms0_1 t) VO0_1 (second c t h0 (tabCos c) (tabSin c)).2.1 S64x128.size (by sl_kernel_rfl)); iexact H1

/-- The body table's row at point `t`'s slots is the body. -/
theorem body_row (t : Fin cfg0.N) : defs₀ (F := F) .tc cfg0.body (cfg0.bodyArgs t (cfg0.slots t)) = bodyAt0 t := by
  unfold defs₀; rw [Defs.onTc_tc]

/-- The pipeline's obligation on its body, at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands the region is the invariant before the first point. -/
theorem Phi_first (c : Dev nD) : Pipeline.ΦA spec0 c ⊢ (dats m 0 c).Φ 0 := Idealize.SL.BI.Entails.refl _

/-- After the last point the scratch is given back, its contents forgotten. -/
theorem Phi_last (c : Dev nD) : (dats m 0 c).Φ (Fin.last cfg0.N) ⊢ Pipeline.ΦA spec0 c := by
  rw [show (dats m 0 c).Φ (Fin.last cfg0.N) = Phi c (1 + 1) from rfl]
  simp only [Phi]
  rw [PhiA0_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every execution ends, the buffers outside the pipeline's arrays as they were, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := Phi_first m) (hout := Phi_last m)

/-- The frame: the argument, no array of the pipeline, ends unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Pipeline.mem_restRefs_of main_arg0 (by decide) (by decide))).trans (V_main_arg0 m c), h.2⟩)
    (run_quiescent m ρ)

end Cert.Kernel.Rope

end
-- ==== Proof.Body.lean ====
/-
  One grid point of the rotary kernel. On whole staging buffers the body leaves in the two output blocks the cosine and sine
  tables of the point's 2048 rows, combined from the base tables (64 rows, kept in the scratch) and the group tables (one row
  per group of 64 rows) by the angle addition formulas. The first point fills the scratch; the other point reads it.
-/
module

public import proofs.«01_k».proof.Proof.Gen.KernelIdeal.Frame.Runs
public import Idealize.ShloMosaic.Lib.Claim
public import Idealize.ShloMosaic.Lib.VecWindow
public import Idealize.ShloMosaic.Lib.ValueIdxCore

@[expose] public section

set_option maxRecDepth 16384

noncomputable section

namespace Cert.KernelIdeal.Rope

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The row of the base tables that row `y 0` of an output block uses: its place inside its group. -/
def lo (y : S2048x128.Idx) : S64x128.Idx :=
  ValueIdx.ix2 ⟨(y 0).val % 64, Nat.mod_lt _ (by decide)⟩ ⟨(y 1).val, (y 1).isLt⟩

/-- The row of the group tables that row `y 0` of an output block uses: the number of its group. -/
def hi (y : S2048x128.Idx) : S64x128.Idx :=
  ValueIdx.ix2 ⟨(y 0).val / 64, by have h : (y 0).val < 2048 := (y 0).isLt; omega⟩ ⟨(y 1).val, (y 1).isLt⟩

/-- The cosine block: `cos(a + b) = cos a · cos b − sin a · sin b`, the base tables `bc`, `bs` and the group tables `gc`, `gs`. -/
def combCos (bc bs gc gs : Vec F S64x128 .f32) : Vec F S2048x128 .f32 := fun y =>
  FloatOps.subf (FloatOps.mulf (bc (lo y)) (gc (hi y))) (FloatOps.mulf (bs (lo y)) (gs (hi y)))

/-- The sine block: `sin(a + b) = sin a · cos b + cos a · sin b`. -/
def combSin (bc bs gc gs : Vec F S64x128 .f32) : Vec F S2048x128 .f32 := fun y =>
  FloatOps.addf (FloatOps.mulf (bs (lo y)) (gc (hi y))) (FloatOps.mulf (bc (lo y)) (gs (hi y)))

/-- The window of 64 rows that group `k` of an output block fills puts its row `x 0` in group `k`, at place `x 0`. -/
theorem lo_emb (k : ℕ) (inb : ∀ a, (![64 * k, 0] : Fin 2 → ℕ) a + S64x128.size a ≤ S2048x128.size a)
    (x : (Rect.unit (s := S2048x128) ![64 * k, 0] S64x128.size inb).shape.Idx) :
    lo ((Rect.unit (s := S2048x128) ![64 * k, 0] S64x128.size inb).emb x) = x := by
  have hx : (x 0).val < 64 := (x 0).isLt
  funext a
  match a with
  | ⟨0, _⟩ => exact Fin.ext (show (64 * k + 1 * (x 0).val) % 64 = (x 0).val by omega)
  | ⟨1, _⟩ => exact Fin.ext (show 0 + 1 * (x 1).val = (x 1).val by omega)

/-- A row of a 64-row table cut out and repeated over 64 rows, read at an index of group `k`'s window: the table at the group's row. -/
theorem row_apply (k : ℕ) (inb : ∀ a, (![64 * k, 0] : Fin 2 → ℕ) a + S64x128.size a ≤ S2048x128.size a)
    (g : Vec F S64x128 .f32) (hs : S64x128.Slices ![k, 0] S1x128) (hb : S1x128.Broadcasts S64x128)
    (x : (Rect.unit (s := S2048x128) ![64 * k, 0] S64x128.size inb).shape.Idx) :
    broadcastTo S64x128 (extractStridedSlice S1x128 ![k, 0] g hs) hb x
      = g (hi ((Rect.unit (s := S2048x128) ![64 * k, 0] S64x128.size inb).emb x)) := by
  have hx : (x 0).val < 64 := (x 0).isLt
  refine congrArg g (funext fun a => ?_)
  match a with
  | ⟨0, _⟩ => exact Fin.ext (show k + 0 = (64 * k + 1 * (x 0).val) / 64 by omega)
  | ⟨1, _⟩ => exact Fin.ext (show 0 + (x 1).val = 0 + 1 * (x 1).val by omega)

/-- What the kernel stores for group `k` of the cosine block is the window of `combCos` that it stores to. -/
theorem cos_block (k : ℕ) (inb : ∀ a, (![64 * k, 0] : Fin 2 → ℕ) a + S64x128.size a ≤ S2048x128.size a)
    (bc bs gc gs : Vec F S64x128 .f32) (hs : S64x128.Slices ![k, 0] S1x128) (hb : S1x128.Broadcasts S64x128)
    (x : (Rect.unit (s := S2048x128) ![64 * k, 0] S64x128.size inb).shape.Idx) :
    subf (mulf bc (broadcastTo S64x128 (extractStridedSlice S1x128 ![k, 0] gc hs) hb))
        (mulf bs (broadcastTo S64x128 (extractStridedSlice S1x128 ![k, 0] gs hs) hb)) x
      = combCos bc bs gc gs ((Rect.unit (s := S2048x128) ![64 * k, 0] S64x128.size inb).emb x) := by
  unfold combCos subf mulf
  rw [row_apply k inb, row_apply k inb, lo_emb k inb]

/-- The same of the sine block. -/
theorem sin_block (k : ℕ) (inb : ∀ a, (![64 * k, 0] : Fin 2 → ℕ) a + S64x128.size a ≤ S2048x128.size a)
    (bc bs gc gs : Vec F S64x128 .f32) (hs : S64x128.Slices ![k, 0] S1x128) (hb : S1x128.Broadcasts S64x128)
    (x : (Rect.unit (s := S2048x128) ![64 * k, 0] S64x128.size inb).shape.Idx) :
    addf (mulf bs (broadcastTo S64x128 (extractStridedSlice S1x128 ![k, 0] gc hs) hb))
        (mulf bc (broadcastTo S64x128 (extractStridedSlice S1x128 ![k, 0] gs hs) hb)) x
      = combSin bc bs gc gs ((Rect.unit (s := S2048x128) ![64 * k, 0] S64x128.size inb).emb x) := by
  unfold combSin addf mulf
  rw [row_apply k inb, row_apply k inb, lo_emb k inb]

/-- Group `k`'s window of 64 rows lies in the block. -/
theorem window_inb (k : Fin 32) : ∀ a, (![64 * k.val, 0] : Fin 2 → ℕ) a + S64x128.size a ≤ S2048x128.size a :=
  Fin.forall_fin_two.2 ⟨show 64 * k.val + 64 ≤ 2048 by omega, show 0 + 128 ≤ 128 by omega⟩

/-- Row `k` of a 64-row table lies in the table. -/
theorem row_slices (k : Fin 32) : S64x128.Slices ![k.val, 0] S1x128 :=
  ⟨rfl, Fin.forall_fin_two.2 ⟨show k.val + 1 ≤ 64 by omega, show 0 + 128 ≤ 128 by omega⟩⟩

/-- The groups in the order in which the stores stand in a list of pieces, last first. -/
def groups : List (Fin 32) :=
  [31, 30, 29, 28, 27, 26, 25, 24, 23, 22, 21, 20, 19, 18, 17, 16, 15, 14, 13, 12, 11, 10, 9, 8, 7, 6, 5, 4, 3, 2, 1, 0]

/-- The stores into the cosine block, one per group. -/
def cosPieces (bc bs gc gs : Vec F S64x128 .f32) : List (View.Piece (Elt F) S2048x128 .f32) :=
  groups.map fun k => ⟨Rect.unit ![64 * k.val, 0] S64x128.size (window_inb k),
    subf (mulf bc (broadcastTo S64x128 (extractStridedSlice S1x128 ![k.val, 0] gc (row_slices k)) broadcasts_S1x128_S64x128))
      (mulf bs (broadcastTo S64x128 (extractStridedSlice S1x128 ![k.val, 0] gs (row_slices k)) broadcasts_S1x128_S64x128))⟩

/-- The stores into the sine block. -/
def sinPieces (bc bs gc gs : Vec F S64x128 .f32) : List (View.Piece (Elt F) S2048x128 .f32) :=
  groups.map fun k => ⟨Rect.unit ![64 * k.val, 0] S64x128.size (window_inb k),
    addf (mulf bs (broadcastTo S64x128 (extractStridedSlice S1x128 ![k.val, 0] gc (row_slices k)) broadcasts_S1x128_S64x128))
      (mulf bc (broadcastTo S64x128 (extractStridedSlice S1x128 ![k.val, 0] gs (row_slices k)) broadcasts_S1x128_S64x128))⟩

/-- Stores of the 32 groups' windows, each of what `G` holds there, leave `G` in the block, whatever the buffer held. -/
theorem read_block (v : View sig .tc .vmem S2048x128 .f32) (f : v.ty.Contents (Elt F)) (L : List (View.Piece (Elt F) S2048x128 .f32))
    (G : Vec F S2048x128 .f32) (hc : View.Piece.tiledL L S64x128.size = true)
    (hG : ∀ p ∈ L, ∀ x : p.1.shape.Idx, p.2 x = G (p.1.emb x)) : v.read (Elt F) (v.writes (Elt F) f L) = G :=
  funext fun y => View.read_writes_apply_of_pieces v f G L hG y (View.cover_of_tiledL L S64x128.size hc y)

/-- The stores into the cosine block leave `combCos` in it, whatever it held. -/
theorem read_cos (v : View sig .tc .vmem S2048x128 .f32) (f : v.ty.Contents (Elt F)) (bc bs gc gs : Vec F S64x128 .f32) :
    v.read (Elt F) (v.writes (Elt F) f (cosPieces bc bs gc gs)) = combCos bc bs gc gs :=
  read_block v f _ _ (by sl_kernel_rfl) (List.forall_mem_map.2 fun k _ x => cos_block k.val (window_inb k) bc bs gc gs _ _ x)

/-- The stores into the sine block leave `combSin` in it. -/
theorem read_sin (v : View sig .tc .vmem S2048x128 .f32) (f : v.ty.Contents (Elt F)) (bc bs gc gs : Vec F S64x128 .f32) :
    v.read (Elt F) (v.writes (Elt F) f (sinPieces bc bs gc gs)) = combSin bc bs gc gs :=
  read_block v f _ _ (by sl_kernel_rfl) (List.forall_mem_map.2 fun k _ x => sin_block k.val (window_inb k) bc bs gc gs _ _ x)

/-- A load of a whole base table that the scratch holds. -/
theorem load_unread {a : Memref sig .tc .vmem S64x128 .f32} (h : a.IsWhole) (b : Vec F S64x128 .f32) :
    a.view.readAt (Elt F) (Rect.unit ![0, 0] S64x128.size inb_S64x128_S64x128_0_0).toLoadRect (h.unread b) = b :=
  (View.readAt_full a.view _ inb_S64x128_S64x128_0_0).trans (h.read_unread b)

/-- A load of a whole base table that the body has just stored. -/
theorem load_stored {a : Memref sig .tc .vmem S64x128 .f32} (b : Vec F S64x128 .f32) :
    a.view.readCov [⟨Rect.unit ![0, 0] S64x128.size inb_S64x128_S64x128_0_0, b⟩]
      (Rect.unit ![0, 0] S64x128.size inb_S64x128_S64x128_0_0).toLoadRect = b :=
  View.readCov_full a.view inb_S64x128_S64x128_0_0 inb_S64x128_S64x128_0_0 b []

set_option maxHeartbeats 1000000 in
/-- The first point: whatever the scratch held, the body fills it with the base tables and reads them back. -/
theorem runA (c : Dev nD) (i : grid0.Coords) (arg1 : Memref sig .tc .vmem S2048x128 .f32) (harg1 : arg1.IsWhole)
    (arg2 : Memref sig .tc .vmem S2048x128 .f32) (harg2 : arg2.IsWhole) (arg3 : Memref sig .tc .vmem S64x128 .f32) (harg3 : arg3.IsWhole)
    (arg4 : Memref sig .tc .vmem S64x128 .f32) (harg4 : arg4.IsWhole) (hc0 : cond0_0 i)
    (E : Set ℕ) (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (iprop(owns (c : Thread nD τ) arg1 fullShare (combCos k0_pay7 k0_pay8 (k0_pay10 i) (k0_pay11 i))
            ∗ owns (c : Thread nD τ) arg2 fullShare (combSin k0_pay7 k0_pay8 (k0_pay10 i) (k0_pay11 i))
            ∗ owns (c : Thread nD τ) arg3 fullShare k0_pay7 ∗ owns (c : Thread nD τ) arg4 fullShare k0_pay8) -∗ K ⟨⟩))
      ⊢ wp frame (wpE (defs₀ (F := F)) Variants.none c none) E (cc0__rope_cache_kernel i arg1 harg1 arg2 harg2 arg3 harg3 arg4 harg4) K := by
  simp only [cc0__rope_cache_kernel_eq_skeleton]; unfold cc0__rope_cache_kernel_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold owns
  iintro ⟨⟨%d0, %f0, -, H0⟩, ⟨%d1, %f1, -, H1⟩, ⟨%ds0, %fs0, -, HS0⟩, ⟨%ds1, %fs1, -, HS1⟩, Hk⟩
  sl_exec (disch := first | sl_exact hc0)
  sl_step
  iapply Hk
  isplitl [H0]
  · iexists _; isplitr
    swap; · iexact H0
    ipureintro
    exact (read_cos arg1.view _ _ _ (k0_pay10 i) (k0_pay11 i)).trans
      (congrArg₂ (fun a b => combCos a b (k0_pay10 i) (k0_pay11 i)) (load_stored _) (load_stored _))
  isplitl [H1]
  · iexists _; isplitr
    swap; · iexact H1
    ipureintro
    exact (read_sin arg2.view _ _ _ (k0_pay10 i) (k0_pay11 i)).trans
      (congrArg₂ (fun a b => combSin a b (k0_pay10 i) (k0_pay11 i)) (load_stored _) (load_stored _))
  isplitl [HS0]
  · iexists _; isplitr
    swap; · iexact HS0
    ipureintro
    exact View.read_writes_full arg3.view _ inb_S64x128_S64x128_0_0 _ _
  iexists _; isplitr
  swap; · iexact HS1
  ipureintro
  exact View.read_writes_full arg4.view _ inb_S64x128_S64x128_0_0 _ _

set_option maxHeartbeats 1000000 in
/-- The second point: the scratch holds the base tables and keeps them. -/
theorem runB (c : Dev nD) (i : grid0.Coords) (arg1 : Memref sig .tc .vmem S2048x128 .f32) (harg1 : arg1.IsWhole)
    (arg2 : Memref sig .tc .vmem S2048x128 .f32) (harg2 : arg2.IsWhole) (arg3 : Memref sig .tc .vmem S64x128 .f32) (harg3 : arg3.IsWhole)
    (arg4 : Memref sig .tc .vmem S64x128 .f32) (harg4 : arg4.IsWhole) (hc0 : ¬cond0_0 i) (bc bs : Vec F S64x128 .f32)
    (E : Set ℕ) (K : PUnit → sProp 𝕄) :
    iprop((∃ d, owns (c : Thread nD τ) arg1 fullShare d) ∗ (∃ d, owns (c : Thread nD τ) arg2 fullShare d)
        ∗ owns (c : Thread nD τ) arg3 fullShare bc ∗ owns (c : Thread nD τ) arg4 fullShare bs
        ∗ (iprop(owns (c : Thread nD τ) arg1 fullShare (combCos bc bs (k0_pay10 i) (k0_pay11 i))
            ∗ owns (c : Thread nD τ) arg2 fullShare (combSin bc bs (k0_pay10 i) (k0_pay11 i))
            ∗ owns (c : Thread nD τ) arg3 fullShare bc ∗ owns (c : Thread nD τ) arg4 fullShare bs) -∗ K ⟨⟩))
      ⊢ wp frame (wpE (defs₀ (F := F)) Variants.none c none) E (cc0__rope_cache_kernel i arg1 harg1 arg2 harg2 arg3 harg3 arg4 harg4) K := by
  simp only [cc0__rope_cache_kernel_eq_skeleton]; unfold cc0__rope_cache_kernel_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold owns
  iintro ⟨⟨%d0, %f0, -, H0⟩, ⟨%d1, %f1, -, H1⟩, ⟨%fs0, %hfs0, HS0⟩, ⟨%fs1, %hfs1, HS1⟩, Hk⟩
  obtain rfl := harg3.eq_unread hfs0; obtain rfl := harg4.eq_unread hfs1
  sl_exec (disch := first | sl_exact hc0)
  sl_step
  iapply Hk
  isplitl [H0]
  · iexists _; isplitr
    swap; · iexact H0
    ipureintro
    exact (read_cos arg1.view _ _ _ (k0_pay10 i) (k0_pay11 i)).trans
      (congrArg₂ (fun a b => combCos a b (k0_pay10 i) (k0_pay11 i)) (load_unread harg3 bc) (load_unread harg4 bs))
  isplitl [H1]
  · iexists _; isplitr
    swap; · iexact H1
    ipureintro
    exact (read_sin arg2.view _ _ _ (k0_pay10 i) (k0_pay11 i)).trans
      (congrArg₂ (fun a b => combSin a b (k0_pay10 i) (k0_pay11 i)) (load_unread harg3 bc) (load_unread harg4 bs))
  isplitl [HS0]
  · iexists _; isplitr; · ipureintro; exact harg3.read_unread _
    iexact HS0
  iexists _; isplitr; · ipureintro; exact harg4.read_unread _
  iexact HS1

end Cert.KernelIdeal.Rope

end
-- ==== Proof.KernelRun.lean ====
/-
  The rotary kernel's run, at any values of the floats. After each grid point the two output blocks hold the closed form of
  Proof/Body.lean and the scratch holds the base tables, so the pipeline's two points leave in each output array the blocks side
  by side (`finalCos`, `finalSin`). The launch follows the generated frame's layout.
-/
module

public import proofs.«01_k».proof.Proof.Body
public import Idealize.ShloMosaic.Lib.Pipeline.Value

@[expose] public section

set_option maxRecDepth 16384

noncomputable section

namespace Cert.KernelIdeal.Rope

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The cosine block of the grid point `i`. -/
def blockCos (i : grid0.Coords) : Vec F S2048x128 .f32 := combCos k0_pay7 k0_pay8 (k0_pay10 i) (k0_pay11 i)

/-- The sine block of the grid point `i`. -/
def blockSin (i : grid0.Coords) : Vec F S2048x128 .f32 := combSin k0_pay7 k0_pay8 (k0_pay10 i) (k0_pay11 i)

/-! ## The pipeline's proof data -/

/-- What holds before grid position `n`: at first the scratch holds anything, afterwards the base tables. -/
def Phi (c : Dev nD) : ℕ → sProp 𝕄
  | 0 => Pipeline.ΦA spec0 c
  | _ + 1 => iprop(iprop(owns (c : Thread nD τ) scM0_0 fullShare k0_pay7 ∗ owns (c : Thread nD τ) scM0_1 fullShare k0_pay8) ∗ (∃ r, prngReg c r))

/-- The pipeline's data on core `c`: the arrays as the region finds them, each output block at its closed form after its point. -/
def dats (_ : Fin 1) (c : Dev nD) : Dat τ (Elt F) Unit ℕ (UR sig nD τ) ℕ cfg0 c where
  A w := V m c (Pipeline.arrRef spec0 w)
  after w t := match w with
    | ⟨0, _⟩ => blockCos (grid0.coords t)
    | ⟨1, _⟩ => blockSin (grid0.coords t)
  Φ t := Phi c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi c t.val := rfl

theorem after_cos (c : Dev nD) (t : Fin cfg0.N) : (dats m 0 c).after 0 t = blockCos (grid0.coords t) := by dsimp only [dats]
theorem after_sin (c : Dev nD) (t : Fin cfg0.N) : (dats m 0 c).after 1 t = blockSin (grid0.coords t) := by dsimp only [dats]

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 4000000 in
/-- The body at any point: the first fills the scratch, the other finds the base tables there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, after_cos, after_sin]
  rw [show (dats m 0 c).Φ t.succ = Phi c (t.val + 1) from rfl, Phi_castSucc]
  have hN : t.val < 2 := lt_of_lt_of_eq t.isLt (show cfg0.N = 2 from N_0)
  unfold blockCos blockSin
  by_cases h0 : t.val % 2 = 0
  · rw [show t.val = 0 by omega]
    simp only [Phi]
    rw [PhiA0_eq]
    iintro ⟨⟨⟨HS0, HS1⟩, Hg⟩, Ho, ⟨%d0, H0⟩, ⟨%d1, H1⟩⟩
    iapply (runA c (grid0.coords t) _ _ _ _ _ _ _ _ ((hcond0_0 t).mpr h0) Set.univ _)
    isplitl [H0]; · iexists _; iexact H0
    isplitl [H1]; · iexists _; iexact H1
    isplitl [HS0]; · iexact HS0
    isplitl [HS1]; · iexact HS1
    iintro ⟨H0, H1, HS0, HS1⟩
    isplitl [HS0 HS1 Hg]
    · isplitl [HS0 HS1]
      · isplitl [HS0]; · iexact HS0
        iexact HS1
      iexact Hg
    isplitl [Ho]; · iexact Ho
    isplitl [H0]; · iexact H0
    iexact H1
  · rw [show t.val = 0 + 1 by omega]
    simp only [Phi]
    iintro ⟨⟨⟨HS0, HS1⟩, Hg⟩, Ho, ⟨%d0, H0⟩, ⟨%d1, H1⟩⟩
    iapply (runB c (grid0.coords t) _ _ _ _ _ _ _ _ (fun h => h0 ((hcond0_0 t).mp h)) _ _ Set.univ _)
    isplitl [H0]; · iexists _; iexact H0
    isplitl [H1]; · iexists _; iexact H1
    isplitl [HS0]; · iexact HS0
    isplitl [HS1]; · iexact HS1
    iintro ⟨H0, H1, HS0, HS1⟩
    isplitl [HS0 HS1 Hg]
    · isplitl [HS0 HS1]
      · isplitl [HS0]; · iexact HS0
        iexact HS1
      iexact Hg
    isplitl [Ho]; · iexact Ho
    isplitl [H0]; · iexact H0
    iexact H1

/-- The body table's row at point `t`'s slots is the body. -/
theorem body_row (t : Fin cfg0.N) : defs₀ (F := F) .tc cfg0.body (cfg0.bodyArgs t (cfg0.slots t)) = bodyAt0 t := by
  unfold defs₀; rw [Defs.onTc_tc]

/-- The pipeline's obligation on its body, at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands the region is the invariant before the first point. -/
theorem Phi_first (c : Dev nD) : Pipeline.ΦA spec0 c ⊢ (dats m 0 c).Φ 0 := Idealize.SL.BI.Entails.refl _

/-- After the last point the scratch is given back, its contents forgotten. -/
theorem Phi_last (c : Dev nD) : (dats m 0 c).Φ (Fin.last cfg0.N) ⊢ Pipeline.ΦA spec0 c := by
  rw [show (dats m 0 c).Φ (Fin.last cfg0.N) = Phi c (1 + 1) from rfl]
  simp only [Phi]
  rw [PhiA0_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every execution ends, each array of the pipeline at what its data says, every other buffer as it was, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := Phi_first m) (hout := Phi_last m)

/-- The argument is no array of the pipeline, so it keeps what it held at launch. -/
theorem kept_arg0 (c : Dev nD) (r : PUnit × MemSt nD τ sig (Elt F)) (h : Pipeline.FramePost cfgs (dats m) 0 (V m) r) :
    r.2.mem ((c.tc : Thread nD τ).loc main_arg0) = m ((c.tc : Thread nD τ).loc main_arg0) :=
  ((h c).2 main_arg0 (Pipeline.mem_restRefs_of main_arg0 (by decide) (by decide))).trans (V_main_arg0 m c)

/-- The frame: the argument ends unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => kept_arg0 m c r h.1, h.2⟩) (run_quiescent m ρ)

/-! ## The output arrays -/

/-- The grid point whose block holds row `j 0`, -/
def point (j : S4096x128.Idx) : Fin grid0.N :=
  ⟨(j 0).val / 2048, lt_of_lt_of_eq (by have h : (j 0).val < 4096 := (j 0).isLt; omega) N_0.symm⟩

/-- and the index's place in that block. -/
def place (j : S4096x128.Idx) : S2048x128.Idx :=
  ValueIdx.ix2 ⟨(j 0).val % 2048, Nat.mod_lt _ (by decide)⟩ ⟨(j 1).val, (j 1).isLt⟩

/-- The cosine array: the points' blocks one below the other. -/
def finalCos : Vec F S4096x128 .f32 := fun j => blockCos (grid0.coords (point j)) (place j)

/-- The sine array. -/
def finalSin : Vec F S4096x128 .f32 := fun j => blockSin (grid0.coords (point j)) (place j)

/-- Grid point `t` writes block row `t` of either array. -/
theorem block_index : ∀ t : Fin cfg0.N, (win0_0.index t (0 : Fin 2) = t.val ∧ win0_0.index t (1 : Fin 2) = 0)
    ∧ win0_1.index t (0 : Fin 2) = t.val ∧ win0_1.index t (1 : Fin 2) = 0 :=
  (by decide +kernel : ∀ t : Fin grid0.N, _)

/-- Every point writes both its blocks back. -/
theorem block_flush : ∀ t : Fin cfg0.N, (cfg0.win 0).flush t = true ∧ (cfg0.win 1).flush t = true :=
  (by decide +kernel : ∀ t : Fin grid0.N, win0_0.flush t = true ∧ win0_1.flush t = true)

/-- The array index at row `2048 t + y 0`, column `y 1`, belongs to point `t` at place `y`. -/
theorem point_place (t : Fin cfg0.N) (y : S2048x128.Idx) (j : S4096x128.Idx) (h0 : (j 0).val = t.val * 2048 + 1 * (y 0).val)
    (h1 : (j 1).val = 0 * 128 + 1 * (y 1).val) : point j = t ∧ place j = y := by
  have hy0 : (y 0).val < 2048 := (y 0).isLt
  constructor
  · apply Fin.ext
    show (j 0).val / 2048 = t.val
    omega
  · funext a
    apply Fin.ext
    match a with
    | ⟨0, _⟩ => show (j 0).val % 2048 = (y 0).val; omega
    | ⟨1, _⟩ => show (j 1).val = (y 1).val; omega

/-- What a point writes back through the cosine window is its block of the cosine array. -/
theorem flushed_cos (c : Dev nD) (t : Fin cfg0.N) :
    (dats m 0 c).flushed 0 t = ((cfg0.win 0).blk t).view.read (Elt F) (finalCos (F := F)) := by
  show (cfg0.win 0).cut (grid0.coords t) ((dats m 0 c).after 0 t) = _
  rw [after_cos]
  obtain ⟨⟨e0, e1⟩, -⟩ := block_index t
  funext y
  obtain ⟨hp, hl⟩ := point_place t ((cfg0.win 0).xinj (grid0.coords t) y) (((cfg0.win 0).blk t).view.emb y)
    (show win0_0.index t (0 : Fin 2) * 2048 + 1 * (y 0).val = _ by rw [e0])
    (show win0_0.index t (1 : Fin 2) * 128 + 1 * (y 1).val = _ by rw [e1])
  show blockCos (grid0.coords t) ((cfg0.win 0).xinj (grid0.coords t) y) = finalCos (((cfg0.win 0).blk t).view.emb y)
  unfold finalCos
  rw [hp, hl]

/-- What a point writes back through the sine window is its block of the sine array. -/
theorem flushed_sin (c : Dev nD) (t : Fin cfg0.N) :
    (dats m 0 c).flushed 1 t = ((cfg0.win 1).blk t).view.read (Elt F) (finalSin (F := F)) := by
  show (cfg0.win 1).cut (grid0.coords t) ((dats m 0 c).after 1 t) = _
  rw [after_sin]
  obtain ⟨-, e0, e1⟩ := block_index t
  funext y
  obtain ⟨hp, hl⟩ := point_place t ((cfg0.win 1).xinj (grid0.coords t) y) (((cfg0.win 1).blk t).view.emb y)
    (show win0_1.index t (0 : Fin 2) * 2048 + 1 * (y 0).val = _ by rw [e0])
    (show win0_1.index t (1 : Fin 2) * 128 + 1 * (y 1).val = _ by rw [e1])
  show blockSin (grid0.coords t) ((cfg0.win 1).xinj (grid0.coords t) y) = finalSin (((cfg0.win 1).blk t).view.emb y)
  unfold finalSin
  rw [hp, hl]

/-- Row `j 0` lies in the rows of its point's block, and column `j 1` in the block's columns. -/
theorem in_block (j : S4096x128.Idx) (ix : Fin 2 → ℕ) (h0 : ix 0 = (point j).val) (h1 : ix 1 = 0) (a : Fin 2) :
    ix a * S2048x128.size a ≤ (j a).val ∧ (j a).val < ix a * S2048x128.size a + S2048x128.size a := by
  have hj1 : (j 1).val < 128 := (j 1).isLt
  match a with
  | ⟨0, _⟩ =>
    show ix 0 * 2048 ≤ (j 0).val ∧ (j 0).val < ix 0 * 2048 + 2048
    rw [h0]
    show (j 0).val / 2048 * 2048 ≤ (j 0).val ∧ (j 0).val < (j 0).val / 2048 * 2048 + 2048
    omega
  | ⟨1, _⟩ =>
    show ix 1 * 128 ≤ (j 1).val ∧ (j 1).val < ix 1 * 128 + 128
    rw [h1]
    omega

/-- The cosine window's array ends at the cosine array, -/
theorem arr_cos (c : Dev nD) : (dats m 0 c).arrAt 0 cfg0.N = finalCos (F := F) :=
  (dats m 0 c).arrAt_eq_of_cover 0 _ (fun t _ => flushed_cos m c t) fun j => ⟨point j, (block_flush (point j)).1, by
    show j ∈ ((View.whole main_v0_0).slice (win0_0.rect (point j))).set
    rw [View.set_slice_whole, Rect.mem_set_unit]
    exact in_block j _ (block_index (point j)).1.1 (block_index (point j)).1.2⟩

/-- and the sine window's at the sine array. -/
theorem arr_sin (c : Dev nD) : (dats m 0 c).arrAt 1 cfg0.N = finalSin (F := F) :=
  (dats m 0 c).arrAt_eq_of_cover 1 _ (fun t _ => flushed_sin m c t) fun j => ⟨point j, (block_flush (point j)).2, by
    show j ∈ ((View.whole main_v0_1).slice (win0_1.rect (point j))).set
    rw [View.set_slice_whole, Rect.mem_set_unit]
    exact in_block j _ (block_index (point j)).2.1 (block_index (point j)).2.2⟩

/-- The run by its results: the two arrays at their closed forms and the argument as it was. -/
theorem run_values : θ_run defs (onTc (τ := τ) (main (F := F))) ⟨m, fun _ => 0, ρ⟩ (fun r => ∀ c : Dev nD,
      r.2.mem ((c.tc : Thread nD τ).loc main_v0_0) = finalCos (F := F)
      ∧ r.2.mem ((c.tc : Thread nD τ).loc main_v0_1) = finalSin (F := F)
      ∧ r.2.mem ((c.tc : Thread nD τ).loc main_arg0) = m ((c.tc : Thread nD τ).loc main_arg0)) :=
  (θ_run defs _ _).mono (fun r h c => ⟨((h.1 c).1 0).trans (arr_cos m c), ((h.1 c).1 1).trans (arr_sin m c), kept_arg0 m c r h.1⟩)
    (run_quiescent m ρ)

end Cert.KernelIdeal.Rope

end
-- ==== Proof.Consts.lean ====
/-
  The float constants of the two programs at exact arithmetic: each printed word is the real number it stands for.
-/
module

public import Idealize.ShloMosaic.PureOps.Ideal

@[expose] public section

namespace Cert.Rope

open Idealize.ShloMosaic

/-- The word of 0, -/
theorem word_zero : Ideal.ofBits .f32 0x00000000#32 = ((0 : ℝ) : EReal) := by
  simp [Ideal.ofBits, Ideal.ieee, -EReal.coe_mul]

/-- of 1, -/
theorem word_one : Ideal.ofBits .f32 0x3F800000#32 = ((1 : ℝ) : EReal) := by
  simp [Ideal.ofBits, Ideal.ieee, -EReal.coe_mul]; norm_num

/-- of 2, -/
theorem word_two : Ideal.ofBits .f32 0x40000000#32 = ((2 : ℝ) : EReal) := by
  simp [Ideal.ofBits, Ideal.ieee, -EReal.coe_mul]; norm_num

/-- of 64, -/
theorem word_sixtyfour : Ideal.ofBits .f32 0x42800000#32 = ((64 : ℝ) : EReal) := by
  simp [Ideal.ofBits, Ideal.ieee, -EReal.coe_mul]; norm_num

/-- of 128, -/
theorem word_head : Ideal.ofBits .f32 0x43000000#32 = ((128 : ℝ) : EReal) := by
  simp [Ideal.ofBits, Ideal.ieee, -EReal.coe_mul]; norm_num

/-- and of 10000. -/
theorem word_base : Ideal.ofBits .f32 0x461C4000#32 = ((10000 : ℝ) : EReal) := by
  simp [Ideal.ofBits, Ideal.ieee, -EReal.coe_mul]; norm_num

end Cert.Rope

end
-- ==== Proof.Angles.lean ====
/-
  The mathematics of the rotary tables over the real numbers: the frequency of a column, written with the exponential (the kernel's
  way) and with a power of 10000 (the reference's way), and the angle of a row split into its group's and its place's.
-/
module

public import Idealize.ShloMosaic.PureOps.Ideal
public import Mathlib.Analysis.SpecialFunctions.Pow.Real
public import Mathlib.Analysis.SpecialFunctions.Trigonometric.Basic

@[expose] public section

noncomputable section

namespace Cert.Rope

/-- The frequency of column `j` of 128: `10000 ^ (-(j mod 64) / 64)`, written with the exponential. -/
def freq (j : ℕ) : ℝ := Real.exp (((j % 64 : ℕ) : ℝ) * (-(Real.log 10000) * (1 / 64)))

/-- The cosine table's entry at position `p`, column `j`, -/
def cosAt (p j : ℕ) : ℝ := Real.cos ((p : ℝ) * freq j)

/-- and the sine table's. -/
def sinAt (p j : ℕ) : ℝ := Real.sin ((p : ℝ) * freq j)

/-- The frequency repeats after 64 columns. -/
theorem freq_mod (j : ℕ) : freq (j % 64) = freq j := by
  unfold freq
  rw [Nat.mod_mod]

/-- The reference's spelling of the frequency: one over `10000 ^ (2 j / 128)`. -/
theorem freq_eq_pow (j : ℕ) (h : j < 64) :
    1 * (1 / Real.rpow 10000 ((0 + 2 * (j : ℝ)) * (1 / 128))) = freq j := by
  unfold freq
  rw [Nat.mod_eq_of_lt h, one_mul, Real.rpow_eq_pow, Real.rpow_def_of_pos (by norm_num), one_div, ← Real.exp_neg]
  congr 1
  ring

/-- A position is its group's first position plus its place in the group: `p = 64 k + q + r`, `q` the block's first. -/
theorem angle_split (p k q r : ℕ) (f : ℝ) (h : p = 64 * k + q + r) :
    (p : ℝ) * f = (((k : ℝ) * 64 + (q : ℝ)) * f) + (r : ℝ) * f := by
  subst h
  push_cast
  ring

/-- The cosine of a position from its group's and its place's cosines and sines. -/
theorem cosAt_split (p k q r j : ℕ) (h : p = 64 * k + q + r) :
    Real.cos ((r : ℝ) * freq j) * Real.cos (((k : ℝ) * 64 + (q : ℝ)) * freq j)
      - Real.sin ((r : ℝ) * freq j) * Real.sin (((k : ℝ) * 64 + (q : ℝ)) * freq j) = cosAt p j := by
  unfold cosAt
  rw [angle_split p k q r (freq j) h, Real.cos_add]
  ring

/-- The sine of a position, likewise. -/
theorem sinAt_split (p k q r j : ℕ) (h : p = 64 * k + q + r) :
    Real.sin ((r : ℝ) * freq j) * Real.cos (((k : ℝ) * 64 + (q : ℝ)) * freq j)
      + Real.cos ((r : ℝ) * freq j) * Real.sin (((k : ℝ) * 64 + (q : ℝ)) * freq j) = sinAt p j := by
  unfold sinAt
  rw [angle_split p k q r (freq j) h, Real.sin_add]
  ring

end Cert.Rope

end
-- ==== Proof.KernelValue.lean ====
/-
  The kernel's two arrays at exact arithmetic: at row `p`, column `j` they hold the cosine and the sine of `p` times the column's
  frequency. Every value on the way is a real number, so the angle addition formulas apply as they stand.
-/
module

public import proofs.«01_k».proof.Proof.KernelRun
public import proofs.«01_k».proof.Proof.Consts
public import proofs.«01_k».proof.Proof.Angles
public import Idealize.ShloMosaic.PureOps.IdealRules

@[expose] public section

set_option maxRecDepth 16384

noncomputable section

namespace Cert.KernelIdeal.Rope

open Cert.KernelIdeal.Gen Cert.Rope
open Idealize.ShloMosaic Idealize.ShloMosaic.TcCoe Idealize.SL.Sem

/-- The column number folded to its half: the word the kernel converts to a float. -/
theorem half_word : ∀ j : Fin 128, (Scalar.select (IntOp.cmpi .slt (BitVec.ofNat 32 j.val) 64#32) (BitVec.ofNat 32 j.val)
    (IntOp.subi (BitVec.ofNat 32 j.val) 64#32)).toInt = ((j.val % 64 : ℕ) : ℤ) := by
  decide +kernel

/-- A row number below 64 as a word, read signed. -/
theorem row_word : ∀ r : Fin 64, (BitVec.ofNat 32 r.val).toInt = ((r.val : ℕ) : ℤ) := by
  decide +kernel

/-- The first row of a grid point's block as a word, read signed. -/
theorem block_word : ∀ t : Fin 2, (Scalar.muli (BitVec.ofNat 32 t.val) 2048#32).toInt = ((t.val * 2048 : ℕ) : ℤ) := by
  decide +kernel

/-- The named constant at exact arithmetic. -/
theorem rate_value : Named.named (F := Ideal) (φ := .f32) κ "rate" 0xBE135D8E#32 = ((-(Real.log 10000) * (1 / 64) : ℝ) : EReal) :=
  (IdealRules.named_const.statement κ "rate" .f32 0xBE135D8E#32 (((-(Real.log 10000)) * (1 / 64) : ℝ) : EReal) rfl).2.2

/-- The frequency table: each row holds the columns' frequencies. -/
theorem freq_value (y : S64x128.Idx) : k0_pay4 (F := Ideal) y = ((freq (y 1).val : ℝ) : EReal) := by
  have hw := half_word ⟨(y 1).val, (y 1).isLt⟩
  show Ideal.exp (((Scalar.select (IntOp.cmpi .slt (iota .tc S64x128 32 [1] iota_S64x128_d1_w32 y) 64#32)
    (iota .tc S64x128 32 [1] iota_S64x128_d1_w32 y)
    (IntOp.subi (iota .tc S64x128 32 [1] iota_S64x128_d1_w32 y) 64#32)).toInt : ℝ) * Named.named (F := Ideal) (φ := .f32) κ "rate" 0xBE135D8E#32) = _
  rw [show iota .tc S64x128 32 [1] iota_S64x128_d1_w32 y = BitVec.ofNat 32 (y 1).val by
    show BitVec.ofNat 32 (0 * 128 + (y 1).val) = _; rw [Nat.zero_mul, Nat.zero_add]]
  rw [rate_value, hw, Int.cast_natCast, ← EReal.coe_mul, Ideal.exp_coe]
  rfl

/-- The row numbers as floats. -/
theorem row_value (y : S64x128.Idx) : k0_pay5 (F := Ideal) y = (((y 0).val : ℝ) : EReal) := by
  have hw := row_word ⟨(y 0).val, (y 0).isLt⟩
  show (((iota .tc S64x128 32 [0] iota_S64x128_d0_w32 y).toInt : ℝ) : EReal) = _
  rw [show iota .tc S64x128 32 [0] iota_S64x128_d0_w32 y = BitVec.ofNat 32 (y 0).val by
    show BitVec.ofNat 32 (0 * 64 + (y 0).val) = _; rw [Nat.zero_mul, Nat.zero_add]]
  rw [hw, Int.cast_natCast]

/-- The base tables' angle: place in the group times frequency. -/
theorem base_angle (y : S64x128.Idx) : k0_pay6 (F := Ideal) y = ((((y 0).val : ℝ) * freq (y 1).val : ℝ) : EReal) := by
  show k0_pay5 (F := Ideal) y * k0_pay4 (F := Ideal) y = _
  rw [row_value, freq_value, ← EReal.coe_mul]

/-- The group tables' angle: the group's first row times frequency. -/
theorem group_angle (i : grid0.Coords) (y : S64x128.Idx) :
    k0_pay9 (F := Ideal) i y = (((((y 0).val : ℝ) * 64 + ((i 0).val * 2048 : ℕ)) * freq (y 1).val : ℝ) : EReal) := by
  have hw := block_word ⟨(i 0).val, (i 0).isLt⟩
  show (k0_pay5 (F := Ideal) y * Ideal.ofBits .f32 0x42800000#32
    + (((Scalar.muli (BitVec.ofNat 32 (i 0).val) 2048#32).toInt : ℝ) : EReal)) * k0_pay4 (F := Ideal) y = _
  rw [row_value, freq_value, word_sixtyfour, hw, Int.cast_natCast, ← EReal.coe_mul, ← EReal.coe_add, ← EReal.coe_mul]

/-- The base cosines, -/
theorem base_cos (y : S64x128.Idx) : k0_pay7 (F := Ideal) y = ((Real.cos (((y 0).val : ℝ) * freq (y 1).val) : ℝ) : EReal) := by
  unfold k0_pay7
  rw [shapeCast_self]
  show Ideal.cos (k0_pay6 (F := Ideal) y) = _
  rw [base_angle, Ideal.cos_coe]

/-- the base sines, -/
theorem base_sin (y : S64x128.Idx) : k0_pay8 (F := Ideal) y = ((Real.sin (((y 0).val : ℝ) * freq (y 1).val) : ℝ) : EReal) := by
  unfold k0_pay8
  rw [shapeCast_self]
  show Ideal.sin (k0_pay6 (F := Ideal) y) = _
  rw [base_angle, Ideal.sin_coe]

/-- the group cosines, -/
theorem group_cos (i : grid0.Coords) (y : S64x128.Idx) : k0_pay10 (F := Ideal) i y
    = ((Real.cos ((((y 0).val : ℝ) * 64 + ((i 0).val * 2048 : ℕ)) * freq (y 1).val) : ℝ) : EReal) := by
  show Ideal.cos (k0_pay9 (F := Ideal) i y) = _
  rw [group_angle, Ideal.cos_coe]

/-- and the group sines. -/
theorem group_sin (i : grid0.Coords) (y : S64x128.Idx) : k0_pay11 (F := Ideal) i y
    = ((Real.sin ((((y 0).val : ℝ) * 64 + ((i 0).val * 2048 : ℕ)) * freq (y 1).val) : ℝ) : EReal) := by
  show Ideal.sin (k0_pay9 (F := Ideal) i y) = _
  rw [group_angle, Ideal.sin_coe]

/-- A grid point's coordinate is its number. -/
theorem coord_point : ∀ t : Fin grid0.N, (grid0.coords t 0).val = t.val := by
  decide +kernel

/-- A row's number from its block, its group in the block and its place in the group. -/
theorem row_split (j : S4096x128.Idx) : (j 0).val
    = 64 * (hi (place j) 0).val + (grid0.coords (point j) 0).val * 2048 + (lo (place j) 0).val := by
  rw [coord_point]
  show (j 0).val = 64 * ((j 0).val % 2048 / 64) + (j 0).val / 2048 * 2048 + (j 0).val % 2048 % 64
  omega

/-- The kernel's cosine array at exact arithmetic. -/
theorem finalCos_value (j : S4096x128.Idx) : finalCos (F := Ideal) j = ((cosAt (j 0).val (j 1).val : ℝ) : EReal) := by
  show k0_pay7 (F := Ideal) (lo (place j)) * k0_pay10 (F := Ideal) (grid0.coords (point j)) (hi (place j))
    - k0_pay8 (F := Ideal) (lo (place j)) * k0_pay11 (F := Ideal) (grid0.coords (point j)) (hi (place j)) = _
  rw [base_cos, base_sin, group_cos, group_sin, ← EReal.coe_mul, ← EReal.coe_mul, ← EReal.coe_sub]
  exact congrArg _ (cosAt_split _ _ _ _ (j 1).val (row_split j))

/-- The kernel's sine array at exact arithmetic. -/
theorem finalSin_value (j : S4096x128.Idx) : finalSin (F := Ideal) j = ((sinAt (j 0).val (j 1).val : ℝ) : EReal) := by
  show k0_pay8 (F := Ideal) (lo (place j)) * k0_pay10 (F := Ideal) (grid0.coords (point j)) (hi (place j))
    + k0_pay7 (F := Ideal) (lo (place j)) * k0_pay11 (F := Ideal) (grid0.coords (point j)) (hi (place j)) = _
  rw [base_cos, base_sin, group_cos, group_sin, ← EReal.coe_mul, ← EReal.coe_mul, ← EReal.coe_add]
  exact congrArg _ (sinAt_split _ _ _ _ (j 1).val (row_split j))

end Cert.KernelIdeal.Rope

end
-- ==== Proof.RefRows.lean ====
/-
  How the reference moves the rows of a finished table: it looks up the row of each of 16384 positions (4 batches of 4096) and stores
  each row it found back at the row's own place. For any table of 4096 rows the array it ends with is the table itself: batch after
  batch stores the same row at the same place, and every row is stored.
-/
module

public import proofs.«01_k».proof.Proof.Gen.ReferenceIdeal
public import Idealize.ShloMosaic.Lib.Routing.Ops
public import Idealize.ShloMosaic.Lib.Routing.OpsSet
public import Idealize.ShloMosaic.Lib.Routing.OpsPair
public import Idealize.ShloMosaic.Lib.ReduceAll
public import Idealize.ShloMosaic.Lib.WordCmp

@[expose] public section

noncomputable section

namespace Cert.ReferenceIdeal.Rope

open Cert.ReferenceIdeal Cert.ReferenceIdeal.Gen
open Idealize.ShloMosaic Idealize.ShloMosaic.ValueIdx Idealize.ShloMosaic.Routing

/-! ## Broadcasts read at an index -/

section
variable {α : Type} {n k : ℕ}

/-- A vector laid down the first axis of a table, -/
theorem down_apply (hn : n ≠ 1) (h : (shape1 n).BroadcastsInDim (shape2 n k) (![0] : Fin 1 → Fin 2)) (x : (shape1 n).Idx → α)
    (i : Fin n) (j : Fin k) : broadcastInDim (shape2 n k) ![0] h x (ix2 i j) = x (ix1 i) := by
  unfold broadcastInDim
  refine congrArg x (funext fun a => ?_)
  match a with
  | ⟨0, _⟩ => exact dif_neg hn

/-- a vector laid along the second axis, -/
theorem along_apply (hk : k ≠ 1) (h : (shape1 k).BroadcastsInDim (shape2 n k) (![1] : Fin 1 → Fin 2)) (x : (shape1 k).Idx → α)
    (i : Fin n) (j : Fin k) : broadcastInDim (shape2 n k) ![1] h x (ix2 i j) = x (ix1 j) := by
  unfold broadcastInDim
  refine congrArg x (funext fun a => ?_)
  match a with
  | ⟨0, _⟩ => exact dif_neg hk

/-- a column repeated over the second axis, -/
theorem column_apply (hn : n ≠ 1) (h : (shape2 n 1).BroadcastsInDim (shape2 n k) (![0, 1] : Fin 2 → Fin 2)) (x : (shape2 n 1).Idx → α)
    (i : Fin n) (j : Fin k) : broadcastInDim (shape2 n k) ![0, 1] h x (ix2 i j) = x (ix2 i (0 : Fin 1)) := by
  unfold broadcastInDim
  refine congrArg x (funext fun a => ?_)
  match a with
  | ⟨0, _⟩ => exact dif_neg hn
  | ⟨1, _⟩ => exact dif_pos rfl

/-- and a row repeated over the first axis. -/
theorem row_apply (hk : k ≠ 1) (h : (shape2 1 k).BroadcastsInDim (shape2 n k) (![0, 1] : Fin 2 → Fin 2)) (x : (shape2 1 k).Idx → α)
    (i : Fin n) (j : Fin k) : broadcastInDim (shape2 n k) ![0, 1] h x (ix2 i j) = x (ix2 (0 : Fin 1) j) := by
  unfold broadcastInDim
  refine congrArg x (funext fun a => ?_)
  match a with
  | ⟨0, _⟩ => exact dif_pos rfl
  | ⟨1, _⟩ => exact dif_neg hk

end

/-! ## The positions -/

/-- The 16384 positions: 0 to 4095, four times over. -/
abbrev positions : IVec S16384 32 :=
  shapeCast _ (broadcastInDim S4x4096 ![0, 1] bcast_S1x4096_S4x4096_0_1 (broadcastInDim S1x4096 ![1] bcast_S4096_S1x4096_1 (iotaInDim S4096 32 0)))
    shapeCasts_S4x4096_S16384

/-- The positions as start words of a lookup: a negative one would count from the end. -/
abbrev starts : IVec S16384x1 32 :=
  broadcastInDim S16384x1 ![0] bcast_S16384_S16384x1_0 (select (cmpi .slt positions (broadcastInDim S16384 ![] bcast_S_S16384 (constantI S_ 32 0#32)))
    (addi positions (broadcastInDim S16384 ![] bcast_S_S16384 (constantI S_ 32 4096#32))) positions)

/-- Position `n` is `n` modulo 4096. -/
theorem positions_apply (n : Fin 16384) : positions (ix1 n) = BitVec.ofNat 32 (n.val % 4096) := by
  have hn := n.isLt
  refine (cast21 _ _ (⟨n.val / 4096, by omega⟩ : Fin 4) (⟨n.val % 4096, Nat.mod_lt _ (by decide)⟩ : Fin 4096) n
    (by show n.val = n.val / 4096 * 4096 + n.val % 4096; omega)).trans ?_
  rw [row_apply (by decide), along_apply (by decide)]
  rfl

/-- No position is negative, so its start word is the position. -/
theorem starts_apply (n : Fin 16384) : starts (ix2 n (0 : Fin 1)) = BitVec.ofNat 32 (n.val % 4096) := by
  have hn : n.val % 4096 < 4096 := Nat.mod_lt _ (by decide)
  refine (down_apply (by decide) _ _ n (0 : Fin 1)).trans ?_
  show Scalar.select (IntOp.cmpi .slt (positions (ix1 n)) 0#32) _ (positions (ix1 n)) = _
  rw [positions_apply, wrap_of_lt _ _ (by rw [BitVec.toNat_ofNat]; omega)]

/-! ## Looking the rows up -/

/-- Whether each start word names a row of the table. -/
abbrev inside : IVec S16384 1 :=
  Host.reduce IntOp.andi (andi (cmpi .sge starts (broadcastInDim S16384x1 ![] bcast_S_S16384x1 (constantI S_ 32 0#32)))
    (cmpi .sle starts (broadcastInDim S16384x1 ![0, 1] bcast_S1x1_S16384x1_0_1 (broadcastInDim S1x1 ![1] bcast_S1_S1x1_1 (constantI S1 32 4095#32)))))
    (constantI S_ 1 1#1) reducesTo_S16384x1_S16384_d1 h_S_

/-- Every one does. -/
theorem inside_apply (j : S16384.Idx) : inside j = 1#1 := by
  refine Host.reduce_andi_one _ _ _ _ j rfl fun i => ?_
  obtain ⟨n, z, rfl⟩ : ∃ (n : Fin 16384) (z : Fin 1), i = ix2 n z := ⟨i 0, i 1, eq_ix2 i⟩
  obtain rfl : z = 0 := Subsingleton.elim _ _
  have hn : n.val % 4096 < 4096 := Nat.mod_lt _ (by decide)
  show IntOp.andi (IntOp.cmpi .sge (starts (ix2 n (0 : Fin 1))) 0#32) (IntOp.cmpi .sle (starts (ix2 n (0 : Fin 1))) 4095#32) = 1#1
  have hw : (BitVec.ofNat 32 (n.val % 4096)).toInt = ((n.val % 4096 : ℕ) : ℤ) := StableHlo.Predicate.toInt_ofNat_small _ (by omega)
  rw [starts_apply, WordCmp.cmpi_sge_eq, WordCmp.cmpi_sle_eq, hw,
    show (0#32).toInt = 0 by decide, show (4095#32).toInt = 4095 by decide]
  rw [decide_eq_true (show (0 : ℤ) ≤ ((n.val % 4096 : ℕ) : ℤ) by omega), decide_eq_true (show ((n.val % 4096 : ℕ) : ℤ) ≤ 4095 by omega)]
  rfl

variable {α : Type}

/-- The rows of the table at the positions, `fill` where a position names none. -/
abbrev looked (x : S4096x128.Idx → α) (fill : S16384x128.Idx → α) : S16384x128.Idx → α :=
  select (broadcastInDim S16384x128 ![0] bcast_S16384_S16384x128_0 inside)
    (Host.gather gather_S4096x128_S16384x1_S16384x128_1_0_n_n_0_1_1128 x starts) fill

/-- Position `n` finds row `n` modulo 4096. -/
theorem looked_apply (x : S4096x128.Idx → α) (fill : S16384x128.Idx → α) (n : Fin 16384) (j : Fin 128) :
    looked x fill (ix2 n j) = x (ix2 (⟨n.val % 4096, Nat.mod_lt _ (by decide)⟩ : Fin 4096) j) := by
  show Scalar.select (broadcastInDim S16384x128 ![0] bcast_S16384_S16384x128_0 inside (ix2 n j)) _ _ = _
  rw [show broadcastInDim S16384x128 ![0] bcast_S16384_S16384x128_0 inside (ix2 n j) = 1#1 from
    (down_apply (by decide) _ _ n j).trans (inside_apply _)]
  exact gather_row gather_S4096x128_S16384x1_S16384x128_1_0_n_n_0_1_1128 rfl rfl rfl rfl rfl x starts n j _ (starts_apply n) (by decide)

/-! ## Storing the rows -/

/-- Row `n` of a scatter of whole rows lands, column by column, at the row its start word names. -/
theorem lands (d : ScatterDims S4096x128 S16384x1 S16384x128) (huw : d.updateWindowDims = [1]) (hiw : d.insertedWindowDims = [0])
    (hsd : d.scatterDimsToOperandDims = [0]) (hivd : d.indexVectorDim = 1) (idx : IVec S16384x1 32)
    (n : Fin 16384) (j : Fin 128) (p : Fin 4096) (q : Fin 128) :
    d.resultIdx? (ix2 n j) idx = some (ix2 p q) ↔ (idx (ix2 n (0 : Fin 1))).toInt = (p.val : ℤ) ∧ j.val = q.val := by
  have hs0 : (0 : Fin 2) ∈ d.scatterDimsToOperandDims := by rw [hsd]; exact List.mem_singleton.2 rfl
  have hk0 : (0 : Fin 2) ∉ d.sKept := fun h => (of_decide_eq_true (List.mem_filter.1 h).2) (by rw [hiw]; exact List.mem_singleton.2 rfl)
  have hk1 : (1 : Fin 2) ∈ d.sKept :=
    List.mem_filter.2 ⟨List.mem_finRange _, decide_eq_true (one_not_mem _ hiw)⟩
  have hu : ∀ a ∈ d.uScatter, a = (0 : Fin 2) := fun a ha => by
    have h' : a ∉ d.updateWindowDims := of_decide_eq_true (List.mem_filter.1 ha).2
    rw [huw] at h'
    have h1 : a.val ≠ 1 := fun e => h' (List.mem_singleton.2 (Fin.ext e))
    have h2 : a.val < 2 := a.isLt
    exact Fin.ext (by show a.val = 0; omega)
  have hw : ∀ a ∈ d.updateWindowDims, a = (1 : Fin 2) := fun a ha => by rw [huw] at ha; exact List.mem_singleton.1 ha
  have at0 : ∀ a : Fin 2, a = 0 → (ix2 n j a).val = n.val := fun a h => by subst h; rfl
  have at1 : ∀ a : Fin 2, a = 1 → (ix2 n j a).val = j.val := fun a h => by subst h; rfl
  have start0 : d.start (ix2 n j) idx 0 = (idx (ix2 n (0 : Fin 1))).toInt := by
    unfold ScatterDims.start
    rw [dif_pos hs0]
    refine congrArg (fun z => (idx z).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      exact at0 _ (hu _ (List.getElem_mem _))
    | ⟨1, _⟩ =>
      unfold ScatterDims.siIdx
      rw [dif_pos (by rw [hivd])]
      show List.idxOf (0 : Fin 2) d.scatterDimsToOperandDims = 0
      rw [hsd]
      simp
  have start1 : d.start (ix2 n j) idx 1 = 0 := by
    unfold ScatterDims.start
    exact dif_neg (one_not_mem _ hsd)
  have window0 : d.window (ix2 n j) 0 = 0 := by
    unfold ScatterDims.window
    exact dif_neg hk0
  have window1 : d.window (ix2 n j) 1 = j.val := by
    unfold ScatterDims.window
    rw [dif_pos hk1]
    exact at1 _ (hw _ (List.getElem_mem _))
  rw [resultIdx?_ix2, start0, start1, window0, window1]
  constructor
  · rintro ⟨h0, h1⟩
    exact ⟨by omega, by omega⟩
  · rintro ⟨h0, h1⟩
    exact ⟨by omega, by omega⟩

/-- Looking every row up and storing it back gives the table. -/
theorem stored_apply (x : S4096x128.Idx → α) (fill : S16384x128.Idx → α) (z : S4096x128.Idx → α) (p : Fin 4096) (q : Fin 128) :
    Host.scatter scatter_S4096x128_S16384x1_S16384x128_1_0_0_1 (fun _ b => b) z starts (looked x fill) (ix2 p q) = x (ix2 p q) := by
  have hp := p.isLt
  have word : ∀ n : Fin 16384, (starts (ix2 n (0 : Fin 1))).toInt = ((n.val % 4096 : ℕ) : ℤ) := fun n => by
    have hn : n.val % 4096 < 4096 := Nat.mod_lt _ (by decide)
    rw [starts_apply, StableHlo.Predicate.toInt_ofNat_small _ (by omega)]
  refine scatter_set_hit _ _ _ _ _ _ (fun k hk => ?_) (ix2 (⟨p.val, by omega⟩ : Fin 16384) q) ?_
  · obtain ⟨n, j, rfl⟩ : ∃ (n : Fin 16384) (j : Fin 128), k = ix2 n j := ⟨k 0, k 1, eq_ix2 k⟩
    obtain ⟨h0, h1⟩ := (lands _ rfl rfl rfl rfl _ n j p q).1 hk
    rw [word] at h0
    rw [looked_apply]
    rw [show (⟨n.val % 4096, Nat.mod_lt _ (by decide)⟩ : Fin 4096) = p from Fin.ext (by show n.val % 4096 = p.val; omega), Fin.ext h1]
  · refine (lands _ rfl rfl rfl rfl _ _ q p q).2 ⟨?_, rfl⟩
    rw [word]
    show ((p.val % 4096 : ℕ) : ℤ) = _
    rw [Nat.mod_eq_of_lt hp]

end Cert.ReferenceIdeal.Rope

end
-- ==== Proof.RefValue.lean ====
/-
  The reference's two arrays at exact arithmetic: the table of angles has at row `p`, column `j` the product of `p` and the column's
  frequency, the tables are its cosines and sines, and moving the rows changes nothing.
-/
module

public import proofs.«01_k».proof.Proof.Gen.ReferenceIdeal.Run
public import proofs.«01_k».proof.Proof.RefRows
public import proofs.«01_k».proof.Proof.Consts
public import proofs.«01_k».proof.Proof.Angles
public import Idealize.ShloMosaic.Lib.Pointwise.SelectCore

@[expose] public section

set_option maxRecDepth 16384

noncomputable section

namespace Cert.ReferenceIdeal.Rope

open Cert.ReferenceIdeal Cert.ReferenceIdeal.Gen Cert.ReferenceIdeal.Value Cert.Rope
open Idealize.ShloMosaic Idealize.ShloMosaic.TcCoe Idealize.ShloMosaic.Routing Idealize.SL.Sem

/-- The frequencies of the 64 columns of a half. -/
abbrev freqs : FVec Ideal S64 .f32 :=
  Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32))))

/-- The angles of a half: positions times frequencies. -/
abbrev half : FVec Ideal S4096x64 .f32 :=
  mulf (broadcastInDim S4096x64 ![0, 1] bcast_S4096x1_S4096x64_0_1 (broadcastInDim S4096x1 ![0] bcast_S4096_S4096x1_0 (sitofp .f32 (iotaInDim S4096 32 0)))) (broadcastInDim S4096x64 ![0, 1] bcast_S1x64_S4096x64_0_1 (broadcastInDim S1x64 ![1] bcast_S64_S1x64_1 freqs))

/-- The angles: the half twice, side by side. -/
abbrev angles : FVec Ideal S4096x128 .f32 :=
  concatenate S4096x128 1 [⟨S4096x64, half⟩, ⟨S4096x64, half⟩] concatenates_S4096x64_S4096x64_S4096x128_d1

/-- The frequency of column `j`. -/
theorem freqs_apply (j : Fin 64) : freqs (ValueIdx.ix1 j) = ((freq j.val : ℝ) : EReal) := by
  have hj := j.isLt
  have hpos : Real.rpow 10000 ((0 + 2 * (j.val : ℝ)) * (1 / 128)) ≠ 0 := (Real.rpow_pos_of_pos (by norm_num) _).ne'
  show Ideal.div (Ideal.ofBits .f32 0x3F800000#32) (Ideal.pow (Ideal.ofBits .f32 0x461C4000#32)
    (Ideal.div (Ideal.ofBits .f32 0x00000000#32 + Ideal.ofBits .f32 0x40000000#32 * (((BitVec.ofNat 32 j.val).toInt : ℝ) : EReal))
      (Ideal.ofBits .f32 0x43000000#32))) = _
  rw [word_one, word_base, word_zero, word_two, word_head, StableHlo.Predicate.toInt_ofNat_small _ (by omega), Int.cast_natCast,
    Ideal.div_coe (by norm_num), ← EReal.coe_mul, ← EReal.coe_add, ← EReal.coe_mul, Ideal.pow_coe_coe, Ideal.div_coe hpos, ← EReal.coe_mul,
    freq_eq_pow j.val hj]

/-- The angle at position `p`, column `j` of a half. -/
theorem half_apply (p : Fin 4096) (j : Fin 64) : half (ValueIdx.ix2 p j) = (((p.val : ℝ) * freq j.val : ℝ) : EReal) := by
  have hp := p.isLt
  show broadcastInDim S4096x64 ![0, 1] bcast_S4096x1_S4096x64_0_1 (broadcastInDim S4096x1 ![0] bcast_S4096_S4096x1_0
      (sitofp (F := Ideal) .f32 (iotaInDim S4096 32 0))) (ValueIdx.ix2 p j)
    * broadcastInDim S4096x64 ![0, 1] bcast_S1x64_S4096x64_0_1 (broadcastInDim S1x64 ![1] bcast_S64_S1x64_1 freqs) (ValueIdx.ix2 p j) = _
  rw [column_apply (by decide), down_apply (by decide), Rope.row_apply (by decide), along_apply (by decide), freqs_apply]
  show (((BitVec.ofNat 32 p.val).toInt : ℝ) : EReal) * _ = _
  rw [StableHlo.Predicate.toInt_ofNat_small _ (by omega), Int.cast_natCast, ← EReal.coe_mul]

/-- The angle at position `p`, column `j` of the whole table. -/
theorem angles_apply (p : Fin 4096) (j : Fin 128) : angles (ValueIdx.ix2 p j) = (((p.val : ℝ) * freq j.val : ℝ) : EReal) := by
  have hj := j.isLt
  have key : angles (ValueIdx.ix2 p j) = half (ValueIdx.ix2 p (⟨j.val % 64, Nat.mod_lt _ (by decide)⟩ : Fin 64)) := by
    refine (concatenate_pair_apply (t := S4096x128) 1 half half concatenates_S4096x64_S4096x64_S4096x128_d1 (ValueIdx.ix2 p j)).trans ?_
    split
    · next h =>
      have h' : j.val < 64 := h
      refine congrArg half (funext fun a => Fin.ext ?_)
      match a with
      | ⟨0, _⟩ => rfl
      | ⟨1, _⟩ => show j.val = j.val % 64; omega
    · next h =>
      have h' : ¬ j.val < 64 := h
      refine congrArg half (funext fun a => Fin.ext ?_)
      match a with
      | ⟨0, _⟩ => rfl
      | ⟨1, _⟩ => show j.val - 64 = j.val % 64; omega
  rw [key, half_apply, freq_mod]

variable (m : (ℓ : Loc nD τ sig) → Buf (Elt Ideal) ℓ) (c : Dev nD)

/-- The reference's cosine array. -/
theorem cos_value (j : S4096x128.Idx) : res_out0 m c j = ((cosAt (j 0).val (j 1).val : ℝ) : EReal) := by
  obtain ⟨p, q, rfl⟩ : ∃ (p : Fin 4096) (q : Fin 128), j = ValueIdx.ix2 p q := ⟨j 0, j 1, ValueIdx.eq_ix2 j⟩
  unfold res_out0 res_main_v33
  refine (stored_apply (Host.cos angles) _ _ p q).trans ?_
  show Ideal.cos (angles (ValueIdx.ix2 p q)) = _
  rw [angles_apply, Ideal.cos_coe]
  rfl

/-- The reference's sine array. -/
theorem sin_value (j : S4096x128.Idx) : res_out1 m c j = ((sinAt (j 0).val (j 1).val : ℝ) : EReal) := by
  obtain ⟨p, q, rfl⟩ : ∃ (p : Fin 4096) (q : Fin 128), j = ValueIdx.ix2 p q := ⟨j 0, j 1, ValueIdx.eq_ix2 j⟩
  unfold res_out1 res_main_v41
  refine (stored_apply (Host.sin angles) _ _ p q).trans ?_
  show Ideal.sin (angles (ValueIdx.ix2 p q)) = _
  rw [angles_apply, Ideal.sin_coe]
  rfl

end Cert.ReferenceIdeal.Rope

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.PrintedFrame
public import proofs.«01_k».proof.Proof.KernelValue
public import proofs.«01_k».proof.Proof.RefValue
public import Idealize.ShloMosaic.Lib.Quiescent
public import Idealize.ShloMosaic.PureOps.IdealRules
public import Idealize.ShloMosaic.Adequacy
public import Idealize.ShloMosaic.Init

@[expose] public section

noncomputable section

namespace Cert.Proof

open Idealize.ShloMosaic Idealize.SL.Sem Cert.Kernel

/-- The two runs end with equal arrays: entry by entry both hold the cosine, and the sine, of position times frequency. -/
theorem values_agree : Cert.algebraic_KernelIdeal_ReferenceIdeal := by
  intro m ρ m' ρ' _ _
  refine ⟨fun _ => Cert.KernelIdeal.Rope.finalCos (F := Ideal), fun _ => Cert.KernelIdeal.Rope.finalSin (F := Ideal),
    Cert.KernelIdeal.Rope.run_values (F := Ideal) m ρ, ?_⟩
  exact (θ_run Cert.ReferenceIdeal.defs _ _).mono (fun _ h c =>
    ⟨(h c).1.trans (funext fun j => (Cert.ReferenceIdeal.Rope.cos_value m' c j).trans (Cert.KernelIdeal.Rope.finalCos_value j).symm),
     (h c).2.1.trans (funext fun j => (Cert.ReferenceIdeal.Rope.sin_value m' c j).trans (Cert.KernelIdeal.Rope.finalSin_value j).symm),
     (h c).2.2⟩) (Cert.ReferenceIdeal.Value.run (F := Ideal) m' ρ')

theorem claim : Cert.Claim := ⟨Cert.Kernel.Gen.facts, Cert.KernelIdeal.Gen.facts, Cert.ReferenceIdeal.Gen.facts,
  fun m ρ _ => Cert.Kernel.Rope.frame (F := Bits) m ρ,
  fun m ρ _ => Cert.KernelIdeal.Rope.frame (F := Ideal) m ρ,
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ),
  IdealRules.named_const.statement Cert.KernelIdeal.κ "rate" .f32 0xBE135D8E#32 (((-(Real.log 10000)) * (1 / 64) : ℝ) : EReal) rfl,
  values_agree⟩

end Cert.Proof

end
